-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_cache [hPre_fresh_cache : Cert.Pre_fresh_cache.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_cache [hPre_fresh_cache : Cert.Pre_fresh_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fresh_cache [hKernelIdeal : Cert.KernelIdeal.Facts] [hPre_fresh_cache : Cert.Pre_fresh_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_cache m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fresh_cache [hReferenceIdeal : Cert.ReferenceIdeal.Facts] [hPre_fresh_cache : Cert.Pre_fresh_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fresh_cache [hKernelIdeal : Cert.KernelIdeal.Facts] [hReferenceIdeal : Cert.ReferenceIdeal.Facts] [hPre_fresh_cache : Cert.Pre_fresh_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_cache m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fresh_cache : Cert.Pre_fresh_cache.Facts),
    quiescent_Kernel (hKernel := hKernel)
    ∧ quiescent_KernelIdeal (hKernelIdeal := hKernelIdeal)
    ∧ quiescent_KernelIdeal_pre_fresh_cache (hKernelIdeal := hKernelIdeal) (hPre_fresh_cache := hPre_fresh_cache)
    ∧ quiescent_ReferenceIdeal (hReferenceIdeal := hReferenceIdeal)
    ∧ quiescent_ReferenceIdeal_pre_fresh_cache (hReferenceIdeal := hReferenceIdeal) (hPre_fresh_cache := hPre_fresh_cache)
    ∧ preserves_Kernel_KernelIdeal
    ∧ algebraic_KernelIdeal_ReferenceIdeal_pre_fresh_cache (hKernelIdeal := hKernelIdeal) (hReferenceIdeal := hReferenceIdeal) (hPre_fresh_cache := hPre_fresh_cache)
-- ==== Pre_fresh_cache.lean ====
abbrev S2048x16x16x128 : Shape := ⟨4, ![2048, 16, 16, 128]⟩
abbrev S2048 : Shape := ⟨1, ![2048]⟩
abbrev S2048x8x128 : Shape := ⟨3, ![2048, 8, 128]⟩
abbrev S_ : Shape := ⟨0, ![]⟩

class Facts : Prop where
  bcast_S_S2048x16x16x128 : S_.BroadcastsInDim S2048x16x16x128 (![] : Fin 0 → Fin S2048x16x16x128.rank)
  reducesTo_S2048x16x16x128_S_d0_1_2_3 : S2048x16x16x128.ReducesTo [0, 1, 2, 3] S_
  h_S_ : 0 < S_.numel
  reducesTo_S2048_S_d0 : S2048.ReducesTo [0] S_
  bcast_S_S2048 : S_.BroadcastsInDim S2048 (![] : Fin 0 → Fin S2048.rank)

variable [Facts]

def fn {F : FTy → Type} [FloatOps F] (main_arg0 : FVec F S2048x16x16x128 .f32) (main_arg1 : IVec S2048 32) (main_arg2 : IVec S2048 32) (main_arg3 : FVec F S2048x8x128 .f32) (main_arg4 : FVec F S2048x8x128 .f32) : IVec S_ 1 :=
  let main_cst : FVec F S_ .f32 := constant S_ .f32 0x00000000#32
  let main_v0 : FVec F S2048x16x16x128 .f32 := broadcastInDim S2048x16x16x128 ![] bcast_S_S2048x16x16x128 main_cst
  let main_v1 : IVec S2048x16x16x128 1 := cmpf .oeq main_arg0 main_v0
  let main_c : IVec S_ 1 := constantI S_ 1 1#1
  let main_v2 : IVec S_ 1 := (fun x v => Host.reduce IntOp.andi x v reducesTo_S2048x16x16x128_S_d0_1_2_3 h_S_) main_v1 main_c
  let main_v3 : IVec S2048 32 := iotaInDim S2048 32 0
  let main_v4 : IVec S2048 1 := cmpi .eq main_arg1 main_v3
  let main_c_0 : IVec S_ 1 := constantI S_ 1 1#1
  let main_v5 : IVec S_ 1 := (fun x v => Host.reduce IntOp.andi x v reducesTo_S2048_S_d0 h_S_) main_v4 main_c_0
  let main_v6 : IVec S_ 1 := andi main_v2 main_v5
  let main_c_1 : IVec S_ 32 := constantI S_ 32 0#32
  let main_v7 : IVec S2048 32 := broadcastInDim S2048 ![] bcast_S_S2048 main_c_1
  let main_v8 : IVec S2048 1 := cmpi .sge main_arg2 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v6 main_v9
  main_v10
-- ==== Kernel.lean ====
abbrev S2048x16x16x128 : Shape := ⟨4, ![2048, 16, 16, 128]⟩
abbrev S2048 : Shape := ⟨1, ![2048]⟩
abbrev S2048x8x128 : Shape := ⟨3, ![2048, 8, 128]⟩
abbrev S128x1x16 : Shape := ⟨3, ![128, 1, 16]⟩
abbrev S1x1x16 : Shape := ⟨3, ![1, 1, 16]⟩
abbrev S16x8x128 : Shape := ⟨3, ![16, 8, 128]⟩
abbrev S16x16x16x128 : Shape := ⟨4, ![16, 16, 16, 128]⟩
abbrev S16 : Shape := ⟨1, ![16]⟩
abbrev S16x8x1x128 : Shape := ⟨4, ![16, 8, 1, 128]⟩
abbrev S16x8x2x128 : Shape := ⟨4, ![16, 8, 2, 128]⟩
abbrev S16x16x128 : Shape := ⟨3, ![16, 16, 128]⟩
abbrev S16x16x1x1 : Shape := ⟨4, ![16, 16, 1, 1]⟩
abbrev S16x1x1x1 : Shape := ⟨4, ![16, 1, 1, 1]⟩
abbrev S16x1x16x128 : Shape := ⟨4, ![16, 1, 16, 128]⟩

abbrev nBuf : Space → Nat
  | .hbm => 7
  | .vmem => 8
  | .smem => 0
  | _ => 0

abbrev bufTy : (tb : Table) → Fin (tcTables nBuf tb) → BufTy
  | .hbm, ⟨0, _⟩ => ⟨S2048x16x16x128, .f32⟩
  | .hbm, ⟨1, _⟩ => ⟨S2048, .i32⟩
  | .hbm, ⟨2, _⟩ => ⟨S2048, .i32⟩
  | .hbm, ⟨3, _⟩ => ⟨S2048x8x128, .f32⟩
  | .hbm, ⟨4, _⟩ => ⟨S2048x8x128, .f32⟩
  | .hbm, ⟨5, _⟩ => ⟨S128x1x16, .i32⟩
  | .hbm, ⟨6, _⟩ => ⟨S2048x16x16x128, .f32⟩
  | .local _ .vmem, ⟨0, _⟩ => ⟨S1x1x16, .i32⟩
  | .local _ .vmem, ⟨1, _⟩ => ⟨S1x1x16, .i32⟩
  | .local _ .vmem, ⟨2, _⟩ => ⟨S16x8x128, .f32⟩
  | .local _ .vmem, ⟨3, _⟩ => ⟨S16x8x128, .f32⟩
  | .local _ .vmem, ⟨4, _⟩ => ⟨S16x8x128, .f32⟩
  | .local _ .vmem, ⟨5, _⟩ => ⟨S16x8x128, .f32⟩
  | .local _ .vmem, ⟨6, _⟩ => ⟨S16x16x16x128, .f32⟩
  | .local _ .vmem, ⟨7, _⟩ => ⟨S16x16x16x128, .f32⟩
  | _, _ => ⟨S2048x16x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x16x16x128 : Shape := ⟨4, ![2048, 16, 16, 128]⟩
abbrev S2048 : Shape := ⟨1, ![2048]⟩
abbrev S2048x8x128 : Shape := ⟨3, ![2048, 8, 128]⟩
abbrev S_ : Shape := ⟨0, ![]⟩
abbrev S8 : Shape := ⟨1, ![8]⟩
abbrev S2048x8x1 : Shape := ⟨3, ![2048, 8, 1]⟩
abbrev S2048x8x3 : Shape := ⟨3, ![2048, 8, 3]⟩

abbrev nBuf : Space → Nat
  | .hbm => 57
  | .vmem => 0
  | .smem => 0
  | _ => 0

abbrev bufTy : (tb : Table) → Fin (tcTables nBuf tb) → BufTy
  | .hbm, ⟨0, _⟩ => ⟨S2048x16x16x128, .f32⟩
  | .hbm, ⟨1, _⟩ => ⟨S2048, .i32⟩
  | .hbm, ⟨2, _⟩ => ⟨S2048, .i32⟩
  | .hbm, ⟨3, _⟩ => ⟨S2048x8x128, .f32⟩
  | .hbm, ⟨4, _⟩ => ⟨S2048x8x128, .f32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S2048x8x1, .i32⟩
  | .hbm, ⟨27, _⟩ => ⟨S2048x8x1, .i32⟩
  | .hbm, ⟨28, _⟩ => ⟨S2048x8x1, .i32⟩
  | .hbm, ⟨29, _⟩ => ⟨S2048x8x3, .i32⟩
  | .hbm, ⟨30, _⟩ => ⟨S2048x16x16x128, .f32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S2048x8x1, .i32⟩
  | .hbm, ⟨53, _⟩ => ⟨S2048x8x1, .i32⟩
  | .hbm, ⟨54, _⟩ => ⟨S2048x8x1, .i32⟩
  | .hbm, ⟨55, _⟩ => ⟨S2048x8x3, .i32⟩
  | .hbm, ⟨56, _⟩ => ⟨S2048x16x16x128, .f32⟩
  | _, _ => ⟨S2048x16x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.Block.lean ====
/-
  The kernel's result array, index by index: the cache page `p` has at slot `s` and channel `h` the new key (`h` even)
  or the new value (`h` odd) of token `p`, head `h / 2`, where `s` is the token's slot, and zero at every other slot.
-/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.PagedCache

open Idealize.ShloMosaic Idealize.ShloMosaic.TcCoe Idealize.SL.Sem
open Cert.KernelIdeal Cert.KernelIdeal.Gen
variable {F : FTy → Type} [FloatOps F]

/-- The row of channel `h`, keys at the even channels and values at the odd ones. -/
def interleaved (k v : S2048x8x128.Idx → F .f32) (p : Fin 2048) (h : Fin 16) (d : Fin 128) : F .f32 :=
  if h.val % 2 = 0 then k (ix3 p ⟨h.val / 2, by omega⟩ d) else v (ix3 p ⟨h.val / 2, by omega⟩ d)

/-- A cache of zeros into which every token `p` has written its keys and values, in page `p` at its slot. -/
def freshlyWritten (slots : IVec S2048 32) (k v : S2048x8x128.Idx → F .f32) : S2048x16x16x128.Idx → F .f32 := fun i =>
  if slots (ix1 (n0 := 2048) (i 0)) = BitVec.ofNat 32 (i 1).val then interleaved k v (i 0) (i 2) (i 3)
  else FloatOps.ofBits .f32 0#32

/-- One element of what the body stores, from the block's slots, keys and values. -/
theorem pay_apply (v0 : Vec F S1x1x16 .i32) (v2 v3 : Vec F S16x8x128 .f32) (a s h : Fin 16) (d : Fin 128) :
    k0_pay1 v0 v2 v3 (ix4 a s h d)
      = if v0 (ix3 (n0 := 1) (n1 := 1) (n2 := 16) 0 0 a) = BitVec.ofNat 32 s.val then
          (if h.val % 2 = 0 then v2 (ix3 (n0 := 16) (n1 := 8) (n2 := 128) a ⟨h.val / 2, by omega⟩ d)
            else v3 (ix3 (n0 := 16) (n1 := 8) (n2 := 128) a ⟨h.val / 2, by omega⟩ d))
        else FloatOps.ofBits .f32 0#32 := by
  pointwise [k0_pay1]
  refine if_congr (IntOp.cmpi_eq.trans eq_comm) ?_ rfl
  by_cases e : h.val % 2 = 0
  · rw [if_pos e, dif_pos (by omega)]
  · rw [if_neg e, dif_neg (by omega)]

/-- Step `t` of the grid is at block `t` of the slots' array. -/
theorem idx0 : ∀ t : Fin grid0.N, win0_0.index t = ![t.val, 0, 0] := by decide +kernel
/-- Step `t` of the grid is at block `t` of the keys' array. -/
theorem idx1 : ∀ t : Fin grid0.N, win0_1.index t = ![t.val, 0, 0] := by decide +kernel
/-- Step `t` of the grid is at block `t` of the values' array. -/
theorem idx2 : ∀ t : Fin grid0.N, win0_2.index t = ![t.val, 0, 0] := by decide +kernel
/-- Step `t` of the grid is at block `t` of the result's array. -/
theorem idx3 : ∀ t : Fin grid0.N, win0_3.index t = ![t.val, 0, 0, 0] := by decide +kernel

/-- The slots reach the kernel as 128 blocks of 16: element `a` of block `g` is token `16 g + a`'s slot. -/
theorem slots_read (m : (ℓ : Loc nD τ sig) → Buf (Elt F) ℓ) (c : Dev nD) (g : Fin 128) (a : Fin 16) :
    V m c main_v0 (ix3 (n0 := 128) (n1 := 1) (n2 := 16) g 0 a)
      = m ((c : Thread nD τ).loc main_arg2) (ix1 (n0 := 2048) ⟨g.val * 16 + a.val, by omega⟩) := by
  entry_read
  pointwise

/-- Where an element of the slots' block lies in their array. -/
theorem emb0 (t : Fin grid0.N) (ht : t.val < 128) (a : Fin 16) : (win0_0.blk t).view.emb (ix3 0 0 a)
    = ix3 (n0 := 128) (n1 := 1) (n2 := 16) ⟨t.val, ht⟩ 0 a := by
  blk_ext [idx0 t]

/-- Where an element of the keys' block lies in their array. -/
theorem emb1 (t : Fin grid0.N) (ht : t.val < 128) (a : Fin 16) (h : Fin 8) (d : Fin 128) : (win0_1.blk t).view.emb (ix3 a h d)
    = ix3 (n0 := 2048) (n1 := 8) (n2 := 128) ⟨t.val * 16 + a.val, by omega⟩ h d := by
  blk_ext [idx1 t]

/-- Where an element of the values' block lies in their array. -/
theorem emb2 (t : Fin grid0.N) (ht : t.val < 128) (a : Fin 16) (h : Fin 8) (d : Fin 128) : (win0_2.blk t).view.emb (ix3 a h d)
    = ix3 (n0 := 2048) (n1 := 8) (n2 := 128) ⟨t.val * 16 + a.val, by omega⟩ h d := by
  blk_ext [idx2 t]

/-- Where an element of the result's block lies in the array. -/
theorem emb3 (t : Fin grid0.N) (ht : t.val < 128) (a s h : Fin 16) (d : Fin 128) : (win0_3.blk t).view.emb (ix4 a s h d)
    = ix4 (n0 := 2048) (n1 := 16) (n2 := 16) (n3 := 128) ⟨t.val * 16 + a.val, by omega⟩ s h d := by
  blk_ext [idx3 t]

/-- One element of the written cache. -/
theorem freshlyWritten_apply (slots : IVec S2048 32) (k v : S2048x8x128.Idx → F .f32) (p : Fin 2048) (s h : Fin 16) (d : Fin 128) :
    freshlyWritten slots k v (ix4 p s h d) = if slots (ix1 p) = BitVec.ofNat 32 s.val then
        (if h.val % 2 = 0 then k (ix3 p ⟨h.val / 2, by omega⟩ d) else v (ix3 p ⟨h.val / 2, by omega⟩ d))
      else FloatOps.ofBits .f32 0#32 := rfl

/-- The slots' block as the body reads it. -/
theorem iblk0_apply (m : (ℓ : Loc nD τ sig) → Buf (Elt F) ℓ) (c : Dev nD) (t : Fin grid0.N) (ht : t.val < 128) (a : Fin 16) :
    iblk m c 0 t (ix3 (n0 := 1) (n1 := 1) (n2 := 16) 0 0 a) = m ((c : Thread nD τ).loc main_arg2) (ix1 (n0 := 2048) ⟨t.val * 16 + a.val, by omega⟩) :=
  (congrArg (V m c main_v0) (emb0 t ht a)).trans (slots_read m c ⟨t.val, ht⟩ a)

/-- The keys' block as the body reads it. -/
theorem iblk1_apply (m : (ℓ : Loc nD τ sig) → Buf (Elt F) ℓ) (c : Dev nD) (t : Fin grid0.N) (ht : t.val < 128) (a : Fin 16) (h : Fin 8) (d : Fin 128) :
    iblk m c 1 t (ix3 (n0 := 16) (n1 := 8) (n2 := 128) a h d)
      = m ((c : Thread nD τ).loc main_arg3) (ix3 (n0 := 2048) (n1 := 8) (n2 := 128) ⟨t.val * 16 + a.val, by omega⟩ h d) :=
  (congrArg (V m c main_arg3) (emb1 t ht a h d)).trans (congrFun (V_main_arg3 m c) _)

/-- The values' block as the body reads it. -/
theorem iblk2_apply (m : (ℓ : Loc nD τ sig) → Buf (Elt F) ℓ) (c : Dev nD) (t : Fin grid0.N) (ht : t.val < 128) (a : Fin 16) (h : Fin 8) (d : Fin 128) :
    iblk m c 2 t (ix3 (n0 := 16) (n1 := 8) (n2 := 128) a h d)
      = m ((c : Thread nD τ).loc main_arg4) (ix3 (n0 := 2048) (n1 := 8) (n2 := 128) ⟨t.val * 16 + a.val, by omega⟩ h d) :=
  (congrArg (V m c main_arg4) (emb2 t ht a h d)).trans (congrFun (V_main_arg4 m c) _)

/-- What the body stores for one block is that block of the written cache. -/
theorem block_apply (m : (ℓ : Loc nD τ sig) → Buf (Elt F) ℓ) (c : Dev nD) (t : Fin grid0.N) (ht : t.val < 128) (a s h : Fin 16) (d : Fin 128) :
    k0_pay1 (iblk m c 0 t) (iblk m c 1 t) (iblk m c 2 t) (ix4 a s h d)
      = freshlyWritten (m ((c : Thread nD τ).loc main_arg2)) (m ((c : Thread nD τ).loc main_arg3)) (m ((c : Thread nD τ).loc main_arg4))
          ((win0_3.blk t).view.emb (ix4 a s h d)) := by
  refine Eq.trans ?_ (congrArg _ (emb3 t ht a s h d)).symm
  refine (pay_apply _ _ _ a s h d).trans ?_
  rw [iblk0_apply m c t ht, iblk1_apply m c t ht, iblk2_apply m c t ht]
  rfl

/-- What the kernel's pipeline leaves in the result array, over all 128 blocks. -/
theorem final (m : (ℓ : Loc nD τ sig) → Buf (Elt F) ℓ) (c : Dev nD) :
    (dats m 0 c).arrAt 3 cfg0.N
      = freshlyWritten (m ((c : Thread nD τ).loc main_arg2)) (m ((c : Thread nD τ).loc main_arg3)) (m ((c : Thread nD τ).loc main_arg4)) := by
  refine (dats m 0 c).arrAt_eq_of_covers 3 _ (by decide +kernel) fun t hf y => ?_
  blk_simp
  rw [after0_3]
  frame_out
  idx_vars y
  have ht : t.val < 128 := t.isLt
  exact block_apply m c t ht y0 y1 y2 y3

end Cert.PagedCache

end
-- ==== Proof.Scatter.lean ====
/-
  One of the reference's two scatters, index by index.
-/
module

public import proofs.«01_k».proof.Proof.Gen.ReferenceIdeal.Run
public import Idealize.ShloMosaic.Lib.Pointwise
public import Idealize.ShloMosaic.Lib.Routing.OpsSet

@[expose] public section

set_option maxRecDepth 16384

noncomputable section

namespace Cert.PagedCache

open Idealize.ShloMosaic Idealize.ShloMosaic.TcCoe Idealize.SL.Sem
open Cert.ReferenceIdeal Cert.ReferenceIdeal.Gen

/-- A small natural number as a word reads as itself. -/
theorem toInt_small {n : Nat} (h : n < 2 ^ 31) : (BitVec.ofNat 32 n).toInt = (n : Int) := by
  rw [BitVec.toInt_eq_toNat_of_lt (by rw [BitVec.toNat_ofNat]; omega), BitVec.toNat_ofNat, Nat.mod_eq_of_lt (by omega)]

/-- A word at or above zero is not wrapped. -/
theorem select_nonneg (x y : BitVec 32) (h : 0 ≤ x.toInt) : Scalar.select (IntOp.cmpi .slt x 0#32) y x = x := by
  rw [Scalar.select, if_neg]
  intro e
  have := IntOp.cmpi_slt.1 e
  rw [BitVec.toInt_zero] at this
  omega

/-- How both scatters read their three arrays: an index row names page, slot and channel, an update row is one channel. -/
abbrev dims := scatter_S2048x16x16x128_S2048x8x3_S2048x8x128_2_012_012_2

/-- Update row `(t, h)`'s `q`-th coordinate is the index array's element `(t, h, q)`. -/
theorem siIdx_eq (t : Fin 2048) (h : Fin 8) (e : Fin 128) (q : Fin 3) :
    dims.siIdx (ix3 t h e) q = ix3 t h q := by
  funext b
  fin_cases b <;> rfl

/-- Update element `(t, h, e)` lands at the page, slot and channel that its index row names, in lane `e`. -/
theorem lands (idx : IVec S2048x8x3 32) (t : Fin 2048) (h : Fin 8) (e : Fin 128)
    (p : Fin 2048) (s c : Fin 16) (d : Fin 128) :
    dims.resultIdx? (ix3 t h e) idx = some (ix4 p s c d)
      ↔ (idx (ix3 t h 0)).toInt = p.val ∧ (idx (ix3 t h 1)).toInt = s.val ∧ (idx (ix3 t h 2)).toInt = c.val ∧ e = d := by
  have s0 : dims.start (ix3 t h e) idx 0 = (idx (ix3 t h 0)).toInt := congrArg (fun j => (idx j).toInt) (siIdx_eq t h e 0)
  have s1 : dims.start (ix3 t h e) idx 1 = (idx (ix3 t h 1)).toInt := congrArg (fun j => (idx j).toInt) (siIdx_eq t h e 1)
  have s2 : dims.start (ix3 t h e) idx 2 = (idx (ix3 t h 2)).toInt := congrArg (fun j => (idx j).toInt) (siIdx_eq t h e 2)
  have s3 : dims.start (ix3 t h e) idx 3 = 0 := rfl
  have w0 : dims.window (ix3 t h e) 0 = 0 := rfl
  have w1 : dims.window (ix3 t h e) 1 = 0 := rfl
  have w2 : dims.window (ix3 t h e) 2 = 0 := rfl
  have w3 : dims.window (ix3 t h e) 3 = e.val := rfl
  rw [Routing.resultIdx?_eq_some]
  constructor
  · intro H
    have h0 : _ = (p.val : Int) := H 0
    have h1 : _ = (s.val : Int) := H 1
    have h2 : _ = (c.val : Int) := H 2
    have h3 : _ = (d.val : Int) := H 3
    rw [s0, w0] at h0
    rw [s1, w1] at h1
    rw [s2, w2] at h2
    rw [s3, w3] at h3
    exact ⟨by omega, by omega, by omega, Fin.ext (by omega)⟩
  · rintro ⟨h0, h1, h2, h3⟩ a
    match a with
    | ⟨0, _⟩ => exact (congrArg₂ (fun (x : Int) (n : Nat) => x + (n : Int)) s0 w0).trans ((Int.add_zero _).trans h0)
    | ⟨1, _⟩ => exact (congrArg₂ (fun (x : Int) (n : Nat) => x + (n : Int)) s1 w1).trans ((Int.add_zero _).trans h1)
    | ⟨2, _⟩ => exact (congrArg₂ (fun (x : Int) (n : Nat) => x + (n : Int)) s2 w2).trans ((Int.add_zero _).trans h2)
    | ⟨3, _⟩ => exact (congrArg₂ (fun (x : Int) (n : Nat) => x + (n : Int)) s3 w3).trans ((Int.zero_add _).trans (by rw [h3]; rfl))

variable {F : FTy → Type} [FloatOps F]

/-- A scatter whose row `(t, h)` names page `t`, token `t`'s slot and channel `2 h + b`: the update where the index names
    a token's slot and a channel of parity `b`, the operand everywhere else. -/
theorem scatter_apply (x : FVec F S2048x16x16x128 .f32) (idx : IVec S2048x8x3 32) (upd : FVec F S2048x8x128 .f32)
    (slots : IVec S2048 32) (b : Nat) (hb : b < 2)
    (h0 : ∀ t h, (idx (ix3 (n0 := 2048) (n1 := 8) (n2 := 3) t h 0)).toInt = t.val)
    (h1 : ∀ t h, idx (ix3 (n0 := 2048) (n1 := 8) (n2 := 3) t h 1) = slots (ix1 t))
    (h2 : ∀ t h, (idx (ix3 (n0 := 2048) (n1 := 8) (n2 := 3) t h 2)).toInt = (2 * h.val + b : Nat))
    (p : Fin 2048) (s c : Fin 16) (d : Fin 128) :
    Host.scatter dims (fun _ y => y) x idx upd (ix4 p s c d)
      = if slots (ix1 p) = BitVec.ofNat 32 s.val ∧ c.val % 2 = b then
          upd (ix3 (n0 := 2048) (n1 := 8) (n2 := 128) p ⟨c.val / 2, by omega⟩ d)
        else x (ix4 p s c d) := by
  have word : ∀ w : BitVec 32, w.toInt = (s.val : Int) ↔ w = BitVec.ofNat 32 s.val := fun w => by
    have e : (BitVec.ofNat 32 s.val).toInt = (s.val : Int) := toInt_small (by omega)
    rw [← BitVec.toInt_inj, e]
  have at_ : ∀ k : S2048x8x128.Idx, dims.resultIdx? k idx = some (ix4 p s c d)
      ↔ k = ix3 (n0 := 2048) (n1 := 8) (n2 := 128) p ⟨c.val / 2, by omega⟩ d ∧ slots (ix1 p) = BitVec.ofNat 32 s.val ∧ c.val % 2 = b := by
    intro k
    idx_vars k
    rw [lands, h0, h1, h2, word, ix3_inj]
    constructor
    · rintro ⟨e0, e1, e2, e3⟩
      have e0 : k0 = p := Fin.ext (by exact_mod_cast e0)
      have e2 : 2 * k1.val + b = c.val := by exact_mod_cast e2
      subst e0
      exact ⟨⟨rfl, Fin.ext (by simp only; omega), e3⟩, e1, by omega⟩
    · rintro ⟨⟨rfl, rfl, rfl⟩, e1, e2⟩
      refine ⟨rfl, e1, ?_, rfl⟩
      show ((2 * (c.val / 2) + b : Nat) : Int) = (c.val : Int)
      omega
  split
  · next h => exact Routing.scatter_set_hit dims x idx upd _ _ (fun k hk => by rw [((at_ k).1 hk).1]) _ ((at_ _).2 ⟨rfl, h⟩)
  · next h => exact Routing.scatter_set_miss dims x idx upd _ fun k hk => h ((at_ k).1 hk).2

/-- An index as the reference reads it: a negative one counts from the end of the axis. -/
abbrev wrapped (n : BitVec 32) (x : IVec S2048 32) : IVec S2048 32 :=
  select (cmpi .slt x (broadcastInDim S2048 ![] bcast_S_S2048 (constantI S_ 32 0#32)))
    (addi x (broadcastInDim S2048 ![] bcast_S_S2048 (constantI S_ 32 n))) x

/-- The scatter's indices: page, slot and channel `b + 2 h` of token `t`'s head `h`. -/
abbrev positions (b : BitVec 32) (pages slots : IVec S2048 32) : IVec S2048x8x3 32 :=
  concatenate S2048x8x3 2
    [⟨S2048x8x1, broadcastInDim S2048x8x1 ![0] bcast_S2048_S2048x8x1_0 (wrapped 2048#32 pages)⟩,
      ⟨S2048x8x1, broadcastInDim S2048x8x1 ![0] bcast_S2048_S2048x8x1_0 (wrapped 16#32 slots)⟩,
      ⟨S2048x8x1, broadcastInDim S2048x8x1 ![1] bcast_S8_S2048x8x1_1
        (addi (broadcastInDim S8 ![] bcast_S_S8 (constantI S_ 32 b))
          (muli (broadcastInDim S8 ![] bcast_S_S8 (constantI S_ 32 2#32)) (iotaInDim S8 32 0)))⟩]
    concatenates_S2048x8x1_S2048x8x1_S2048x8x1_S2048x8x3_d2

/-- With the identity page table, token `t` writes page `t`. -/
theorem positions_page (b : BitVec 32) (pages slots : IVec S2048 32) (t : Fin 2048) (h : Fin 8) (hp : pages (ix1 t) = BitVec.ofNat 32 t.val) :
    (positions b pages slots (ix3 t h 0)).toInt = t.val := by
  have ht : (BitVec.ofNat 32 t.val).toInt = (t.val : Int) := toInt_small (by omega)
  pointwise
  rw [hp, select_nonneg _ _ (by omega), ht]

/-- A slot at or above zero is read as it stands. -/
theorem positions_slot (b : BitVec 32) (pages slots : IVec S2048 32) (t : Fin 2048) (h : Fin 8) (hp : 0 ≤ (slots (ix1 t)).toInt) :
    positions b pages slots (ix3 t h 1) = slots (ix1 t) := by
  pointwise
  exact select_nonneg _ _ hp

/-- Head `h` writes channel `2 h + b`. -/
theorem positions_channel (b : Nat) (hb : b < 2) (pages slots : IVec S2048 32) (t : Fin 2048) (h : Fin 8) :
    (positions (BitVec.ofNat 32 b) pages slots (ix3 t h 2)).toInt = (2 * h.val + b : Nat) := by
  pointwise
  rw [show IntOp.addi (BitVec.ofNat 32 b) (IntOp.muli 2#32 (BitVec.ofNat 32 h.val)) = BitVec.ofNat 32 (2 * h.val + b) by
    rw [Nat.add_comm, BitVec.ofNat_add, BitVec.ofNat_mul]; rfl]
  exact toInt_small (by omega)

end Cert.PagedCache
end
-- ==== Proof.Fresh.lean ====
/-
  The precondition read back, and the reference's result under it: the two scatters into an all-zero cache through the
  identity page table write exactly what the kernel writes.
-/
module

public import proofs.«01_k».proof.Proof.Block
public import proofs.«01_k».proof.Proof.Scatter
public import proofs.«01_k».proof.Pre_fresh_cache
public import proofs.«01_k».proof.Proof.Gen.Pre_fresh_cache
public import Idealize.ShloMosaic.Lib.ReduceAll

@[expose] public section

set_option maxRecDepth 16384

noncomputable section

namespace Cert.PagedCache

open Idealize.ShloMosaic Idealize.ShloMosaic.TcCoe Idealize.SL.Sem
open Cert.ReferenceIdeal Cert.ReferenceIdeal.Gen

/-- What the precondition says: the cache is zero, page `t` is token `t`'s, and no slot is negative. -/
theorem fresh_read (kv : FVec Ideal S2048x16x16x128 .f32) (pages slots : IVec S2048 32) (k v : FVec Ideal S2048x8x128 .f32)
    (h : ∀ i, Cert.Pre_fresh_cache.fn (F := Ideal) kv pages slots k v i = 1#1) :
    (∀ i, kv i = FloatOps.ofBits .f32 0#32) ∧ (∀ t : Fin 2048, pages (ix1 t) = BitVec.ofNat 32 t.val)
      ∧ ∀ t : Fin 2048, 0 ≤ (slots (ix1 t)).toInt := by
  have h := h ((fun a => nomatch a) : Cert.Pre_fresh_cache.S_.Idx)
  haveI : Subsingleton Cert.Pre_fresh_cache.S_.Idx := ⟨fun a b => funext fun x => nomatch x⟩
  dsimp only [Cert.Pre_fresh_cache.fn] at h
  obtain ⟨h12, h3⟩ := IntOp.andi_eq_one.1 h
  obtain ⟨h1, h2⟩ := IntOp.andi_eq_one.1 h12
  refine ⟨fun i => ?_, fun t => ?_, fun t => ?_⟩
  · have e := Host.reduce_andi_all _ _ _ _ _ h1 i
    change BitVec.ofBool (decide (kv i = FloatOps.ofBits (F := Ideal) .f32 0#32)) = 1#1 at e
    by_contra hn
    rw [decide_eq_false hn] at e
    exact absurd e (by decide)
  · have e := Host.reduce_andi_all _ _ _ _ _ h2 (ix1 t)
    exact IntOp.cmpi_eq.1 e
  · have e := Host.reduce_andi_all _ _ _ _ _ h3 (ix1 t)
    exact IntOp.cmpi_sge.1 e

variable {F : FTy → Type} [FloatOps F]

/-- The reference's result: keys scattered to the even channels, then values to the odd ones. -/
abbrev scattered (kv : FVec F S2048x16x16x128 .f32) (pages slots : IVec S2048 32) (k v : FVec F S2048x8x128 .f32) : FVec F S2048x16x16x128 .f32 :=
  Host.scatter dims (fun _ y => y) (Host.scatter dims (fun _ y => y) kv (positions 0#32 pages slots) k) (positions 1#32 pages slots) v

/-- From an all-zero cache, the identity page table and slots at or above zero, the two scatters write the kernel's array. -/
theorem scattered_eq (kv : FVec F S2048x16x16x128 .f32) (pages slots : IVec S2048 32) (k v : FVec F S2048x8x128 .f32)
    (hkv : ∀ i, kv i = FloatOps.ofBits .f32 0#32) (hp : ∀ t : Fin 2048, pages (ix1 t) = BitVec.ofNat 32 t.val)
    (hs : ∀ t : Fin 2048, 0 ≤ (slots (ix1 t)).toInt) : scattered kv pages slots k v = freshlyWritten slots k v := by
  funext i
  idx_vars i
  rw [scattered, scatter_apply _ _ v slots 1 (by omega) (fun t h => positions_page _ _ _ t h (hp t))
      (fun t h => positions_slot _ _ _ t h (hs t)) (positions_channel 1 (by omega) pages slots),
    scatter_apply _ _ k slots 0 (by omega) (fun t h => positions_page _ _ _ t h (hp t))
      (fun t h => positions_slot _ _ _ t h (hs t)) (positions_channel 0 (by omega) pages slots), hkv]
  refine Eq.trans ?_ (freshlyWritten_apply slots k v i0 i1 i2 i3).symm
  by_cases e : slots (ix1 i0) = BitVec.ofNat 32 i1.val
  · by_cases o : i2.val % 2 = 0
    · rw [if_neg (by omega), if_pos ⟨e, o⟩, if_pos e, if_pos o]
    · rw [if_pos ⟨e, by omega⟩, if_pos e, if_neg o]
  · rw [if_neg (fun h => e h.1), if_neg (fun h => e h.1), if_neg e]

/-- The reference's run, its result named. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = scattered (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1, (h c).2⟩) (Cert.ReferenceIdeal.Value.run m ρ)

end Cert.PagedCache

end
-- ==== Proof.lean ====
/-
  The certificate's claim, assembled. The three programs run, keep their arguments and leave every counter at zero; and over
  the extended reals, from an all-zero cache with the identity page table and no negative slot, the kernel and the reference
  end with the same cache: both are `freshlyWritten` of the slots, keys and values (Proof/Block.lean, Proof/Fresh.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Fresh
public import proofs.«01_k».proof.Proof.Gen.ReferenceIdeal.Run
public import proofs.«01_k».proof.Proof.Gen.Pre_fresh_cache
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs, keeps its arguments, and, having no semaphore at all, leaves every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems rfl r.2⟩) (Cert.ReferenceIdeal.Value.run m ρ)

/-- Every conjunct of the certificate's claim. -/
theorem claim : Cert.Claim := ⟨Cert.Kernel.Gen.facts, Cert.KernelIdeal.Gen.facts, Cert.ReferenceIdeal.Gen.facts, Cert.Pre_fresh_cache.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m g m' g' hpre hagree => ⟨fun c => PagedCache.freshlyWritten (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run _ _ _).mono (fun r h c => ⟨(h c).1.trans (PagedCache.final m c), (h c).2⟩) (Cert.KernelIdeal.Value.run_blocks m g),
    (θ_run _ _ _).mono (fun r h c => ⟨(h c).1.trans (by
        obtain ⟨a0, a1, a2, a3, a4⟩ := hagree c
        obtain ⟨hkv, hp, hs⟩ := PagedCache.fresh_read _ _ _ _ _ fun i => congrFun (hpre c) i
        rw [a0, a1, a2, a3, a4]
        exact PagedCache.scattered_eq (F := Ideal) _ _ _ _ _ hkv hp hs), (h c).2⟩) (PagedCache.reference_run m' g')⟩⟩

end Cert.Proof

end
